-- ==== Defs.lean ====
def Pre_Kernel (m : (ℓ : Loc Cert.Kernel.nD Cert.Kernel.τ Cert.Kernel.sig) → Buf (Elt Bits) ℓ) : Prop :=
  True

def Pre_Kernel_top_two_distinct [hPre_top_two_distinct : Cert.Pre_top_two_distinct.Facts] (m : (ℓ : Loc Cert.Kernel.nD Cert.Kernel.τ Cert.Kernel.sig) → Buf (Elt Bits) ℓ) : Prop :=
  ∀ c : Dev Cert.Kernel.nD,
    (Cert.Pre_top_two_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_top_two_distinct : Cert.Pre_top_two_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_two_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_two_distinct [hPre_top_two_distinct : Cert.Pre_top_two_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_two_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_top_two_distinct [hKernel : Cert.Kernel.Facts] [hPre_top_two_distinct : Cert.Pre_top_two_distinct.Facts] : Prop :=
  ∀ (m : (ℓ : Loc Cert.Kernel.nD Cert.Kernel.τ Cert.Kernel.sig) → Buf (Elt Bits) ℓ) (g : Dev Cert.Kernel.nD → PrngReg), Pre_Kernel_top_two_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_top_two_distinct : Cert.Pre_top_two_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_two_distinct [hReferenceIdeal : Cert.ReferenceIdeal.Facts] [hPre_top_two_distinct : Cert.Pre_top_two_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_two_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_top_two_distinct : Cert.Pre_top_two_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_two_distinct : Cert.Pre_top_two_distinct.Facts),
    quiescent_Kernel (hKernel := hKernel)
    ∧ quiescent_Kernel_pre_top_two_distinct (hKernel := hKernel) (hPre_top_two_distinct := hPre_top_two_distinct)
    ∧ quiescent_KernelIdeal (hKernelIdeal := hKernelIdeal) (hPre_top_two_distinct := hPre_top_two_distinct)
    ∧ quiescent_ReferenceIdeal (hReferenceIdeal := hReferenceIdeal)
    ∧ quiescent_ReferenceIdeal_pre_top_two_distinct (hReferenceIdeal := hReferenceIdeal) (hPre_top_two_distinct := hPre_top_two_distinct)
    ∧ preserves_Kernel_KernelIdeal
    ∧ algebraic_KernelIdeal_ReferenceIdeal (hKernelIdeal := hKernelIdeal) (hReferenceIdeal := hReferenceIdeal) (hPre_top_two_distinct := hPre_top_two_distinct)
-- ==== Pre_top_two_distinct.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

class Facts : Prop where
  shapeCasts_S4x4096x2048_S16384x2048 : S4x4096x2048.ShapeCasts S16384x2048
  transposes_S64x2048_S2048x64_1_0 : S64x2048.Transposes [1, 0] S2048x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  natLt_1_32 : 1 < 32
  bcast_S_S16384 : S_.BroadcastsInDim S16384 (![] : Fin 0 → Fin S16384.rank)
  shapeCasts_S16384x1_S16384 : S16384x1.ShapeCasts S16384
  reducesTo_S16384_S_d0 : S16384.ReducesTo [0] S_
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn_where {F : FTy → Type} [FloatOps F] (arg0 : IVec S16384x64 1) (arg1 : FVec F S_ .f32) (arg2 : FVec F S16384x64 .f32) : FVec F S16384x64 .f32 :=
  let v0 : FVec F S_ .f32 := id arg1
  let v1 : FVec F S16384x64 .f32 := broadcastInDim S16384x64 ![] bcast_S_S16384x64 v0
  let v2 : FVec F S16384x64 .f32 := select arg0 v1 arg2
  v2

def fn_part1 {F : FTy → Type} [FloatOps F] (main_v4 : FVec F S16384x1 .f32) (main_v15 : IVec S16384 32) (main_v17 : IVec S16384 1) : IVec S_ 1 :=
  let main_c_4 : IVec S_ 32 := constantI S_ 32 1#32
  let main_v18 : IVec S16384 32 := broadcastInDim S16384 ![] bcast_S_S16384 main_c_4
  let main_v19 : IVec S16384 1 := cmpi .eq main_v15 main_v18
  let main_v20 : IVec S16384 1 := andi main_v17 main_v19
  let main_v21 : FVec F S16384 .f32 := shapeCast S16384 main_v4 shapeCasts_S16384x1_S16384
  let main_cst_5 : FVec F S_ .f32 := constant S_ .f32 0x7F800000#32
  let main_v22 : FVec F S16384 .f32 := broadcastInDim S16384 ![] bcast_S_S16384 main_cst_5
  let main_v23 : IVec S16384 1 := cmpf .olt main_v21 main_v22
  let main_v24 : IVec S16384 1 := andi main_v20 main_v23
  let main_c_6 : IVec S_ 1 := constantI S_ 1 1#1
  let main_v25 : IVec S_ 1 := (fun x v => Host.reduce IntOp.andi x v reducesTo_S16384_S_d0 h_S_) main_v24 main_c_6
  main_v25

def fn {F : FTy → Type} [FloatOps F] (main_arg0 : FVec F S4x4096x2048 .f32) (main_arg1 : FVec F S64x2048 .f32) : IVec S_ 1 :=
  let main_v0 : FVec F S16384x2048 .f32 := shapeCast S16384x2048 main_arg0 shapeCasts_S4x4096x2048_S16384x2048
  let main_v1 : FVec F S2048x64 .f32 := (transpose S2048x64 [1, 0] · transposes_S64x2048_S2048x64_1_0) main_arg1
  let main_v2 : FVec F S16384x64 .f32 := (fun l r => Host.dotGeneral dot_S16384x2048_S2048x64_S16384x64_1_0_0_1_n_n none l r) main_v0 main_v1
  let main_cst : FVec F S_ .f32 := constant S_ .f32 0xFF800000#32
  let main_v3 : FVec F S16384 .f32 := (fun x v => Host.reduce FloatOps.maximumf x v reducesTo_S16384x64_S16384_d1 h_S_) main_v2 main_cst
  let main_v4 : FVec F S16384x1 .f32 := broadcastInDim S16384x1 ![0] bcast_S16384_S16384x1_0 main_v3
  let main_v5 : FVec F S16384x64 .f32 := broadcastInDim S16384x64 ![0, 1] bcast_S16384x1_S16384x64_0_1 main_v4
  let main_v6 : IVec S16384x64 1 := cmpf .oeq main_v2 main_v5
  let main_cst_0 : FVec F S_ .f32 := constant S_ .f32 0xFF800000#32
  let main_v7 : FVec F S16384x64 .f32 := fn_where (F := F) main_v6 main_cst_0 main_v2
  let main_cst_1 : FVec F S_ .f32 := constant S_ .f32 0xFF800000#32
  let main_v8 : FVec F S16384 .f32 := (fun x v => Host.reduce FloatOps.maximumf x v reducesTo_S16384x64_S16384_d1 h_S_) main_v7 main_cst_1
  let main_v9 : FVec F S16384x1 .f32 := broadcastInDim S16384x1 ![0] bcast_S16384_S16384x1_0 main_v8
  let main_v10 : IVec S16384x64 32 := (extui 32 · natLt_1_32) main_v6
  let main_c : IVec S_ 32 := constantI S_ 32 0#32
  let main_v11 : IVec S16384 32 := (fun x v => Host.reduce IntOp.addi x v reducesTo_S16384x64_S16384_d1 h_S_) main_v10 main_c
  let main_v12 : FVec F S16384x64 .f32 := broadcastInDim S16384x64 ![0, 1] bcast_S16384x1_S16384x64_0_1 main_v9
  let main_v13 : IVec S16384x64 1 := cmpf .oeq main_v7 main_v12
  let main_v14 : IVec S16384x64 32 := (extui 32 · natLt_1_32) main_v13
  let main_c_2 : IVec S_ 32 := constantI S_ 32 0#32
  let main_v15 : IVec S16384 32 := (fun x v => Host.reduce IntOp.addi x v reducesTo_S16384x64_S16384_d1 h_S_) main_v14 main_c_2
  let main_c_3 : IVec S_ 32 := constantI S_ 32 1#32
  let main_v16 : IVec S16384 32 := broadcastInDim S16384 ![] bcast_S_S16384 main_c_3
  let main_v17 : IVec S16384 1 := cmpi .eq main_v11 main_v16
  fn_part1 (F := F) main_v4 main_v15 main_v17
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S16384x64 : Shape := ⟨2, ![16384, 64]⟩
abbrev S16384x2 : Shape := ⟨2, ![16384, 2]⟩
abbrev S2048x2048 : Shape := ⟨2, ![2048, 2048]⟩
abbrev S2048x64 : Shape := ⟨2, ![2048, 64]⟩
abbrev S2048x2 : Shape := ⟨2, ![2048, 2]⟩
abbrev S2048 : Shape := ⟨1, ![2048]⟩
abbrev S2048x1 : Shape := ⟨2, ![2048, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S16384x64, .f32⟩
  | .hbm, ⟨4, _⟩ => ⟨S16384x2, .f32⟩
  | .hbm, ⟨5, _⟩ => ⟨S16384x2, .i32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S2048x64, .f32⟩
  | .local _ .vmem, ⟨4, _⟩ => ⟨S2048x64, .f32⟩
  | .local _ .vmem, ⟨5, _⟩ => ⟨S2048x2, .f32⟩
  | .local _ .vmem, ⟨6, _⟩ => ⟨S2048x2, .f32⟩
  | .local _ .vmem, ⟨7, _⟩ => ⟨S2048x2, .i32⟩
  | .local _ .vmem, ⟨8, _⟩ => ⟨S2048x2, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x2, .f32⟩
  | .hbm, ⟨20, _⟩ => ⟨S16384x2, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x2, .f32⟩
  | .hbm, ⟨25, _⟩ => ⟨S16384x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.RowMath.lean ====
/-
  One row of logits, as mathematics on the extended reals: the two greatest entries of a row whose greatest is finite
  and held once and whose runner-up is held once, the softmax of that row, its order, the two greatest probabilities
  and their normalised scores. Nothing here mentions a program.
-/
module

public import Idealize.ShloMosaic.PureOps.Ideal
public import Idealize.ShloMosaic.Lib.SortFacts
public import Idealize.ShloMosaic.Lib.IdealHost

@[expose] public section

noncomputable section

namespace Cert.Row

open Idealize.ShloMosaic

/-- Column `a` of the row `L` holds the greatest entry, alone and below `+∞`; column `b` holds the greatest of the
    others, alone and above `−∞`. -/
structure TopTwo {n : Nat} (L : Fin n → EReal) (a b : Fin n) : Prop where
  ne : b ≠ a
  first : ∀ j, j ≠ a → L j < L a
  second : ∀ j, j ≠ a → j ≠ b → L j < L b
  finite : L a < ⊤
  above : ⊥ < L b

/-- The row with column `a` put to `−∞`. -/
def masked {n : Nat} (L : Fin n → EReal) (a : Fin n) : Fin n → EReal := fun k => if k = a then ⊥ else L k

/-- The maximum of a row, taken from `−∞`, is an entry that no entry exceeds. -/
theorem fold_max_eq {n : Nat} (f : Fin n → EReal) (a : Fin n) (h : ∀ j, f j ≤ f a) :
    (Finset.univ : Finset (Fin n)).fold max ⊥ f = f a := by
  apply le_antisymm
  · rw [Finset.fold_max_le]; exact ⟨bot_le, fun j _ => h j⟩
  · rw [Finset.le_fold_max]; exact Or.inr ⟨a, Finset.mem_univ _, le_rfl⟩

namespace TopTwo

variable {n : Nat} {L : Fin n → EReal} {a b : Fin n}

/-- No entry exceeds the greatest. -/
theorem le_first (h : TopTwo L a b) (j : Fin n) : L j ≤ L a := by
  by_cases e : j = a
  · rw [e]
  · exact (h.first j e).le

/-- In the masked row every column but `b` is below the entry at `b`. -/
theorem masked_lt (h : TopTwo L a b) (j : Fin n) (hj : j ≠ b) : masked L a j < masked L a b := by
  unfold masked
  rw [if_neg h.ne]
  split
  · exact h.above
  · exact h.second j ‹_› hj

/-- The row's maximum is the entry at `a`. -/
theorem max_eq (h : TopTwo L a b) : (Finset.univ : Finset (Fin n)).fold max ⊥ L = L a := fold_max_eq L a h.le_first

/-- The masked row's maximum is the entry at `b`. -/
theorem masked_max_eq (h : TopTwo L a b) : (Finset.univ : Finset (Fin n)).fold max ⊥ (masked L a) = L b := by
  rw [fold_max_eq (masked L a) b]
  · unfold masked; rw [if_neg h.ne]
  · intro j
    by_cases e : j = b
    · rw [e]
    · exact (h.masked_lt j e).le

/-- The greatest entry is a real number. -/
theorem first_real (h : TopTwo L a b) : ∃ r : ℝ, L a = (r : EReal) := by
  have hb : (⊥ : EReal) < L a := lt_trans h.above (h.first b h.ne)
  exact ⟨(L a).toReal, (EReal.coe_toReal h.finite.ne hb.ne').symm⟩

/-- Every exponential of an entry less the maximum is a nonnegative real number. -/
theorem exp_real (h : TopTwo L a b) (k : Fin n) : ∃ x : ℝ, 0 ≤ x ∧ Ideal.exp (L k - L a) = (x : EReal) := by
  obtain ⟨r, hr⟩ := h.first_real
  rw [hr]
  have hk : L k < ⊤ := lt_of_le_of_lt (h.le_first k) h.finite
  induction hL : L k with
  | bot => exact ⟨0, le_rfl, by rw [EReal.bot_sub]; simp⟩
  | top => rw [hL] at hk; exact absurd rfl hk.ne
  | coe y => exact ⟨Real.exp (y - r), (Real.exp_pos _).le, by rw [← EReal.coe_sub, Ideal.exp_coe]⟩

/-- A greater entry has the greater exponential. -/
theorem exp_lt (h : TopTwo L a b) {j k : Fin n} (hjk : L j < L k) :
    Ideal.exp (L j - L a) < Ideal.exp (L k - L a) := by
  obtain ⟨r, hr⟩ := h.first_real
  have hk : L k < ⊤ := lt_of_le_of_lt (h.le_first k) h.finite
  rw [hr]
  induction hK : L k with
  | bot => rw [hK] at hjk; exact absurd hjk not_lt_bot
  | top => rw [hK] at hk; exact absurd rfl hk.ne
  | coe y =>
    rw [hK] at hjk
    induction hJ : L j with
    | bot =>
      rw [EReal.bot_sub, ← EReal.coe_sub, Ideal.exp_coe, Ideal.exp_bot]
      exact EReal.coe_pos.mpr (Real.exp_pos _)
    | top => rw [hJ] at hjk; exact absurd hjk not_top_lt
    | coe x =>
      rw [hJ] at hjk
      rw [← EReal.coe_sub, ← EReal.coe_sub, Ideal.exp_coe, Ideal.exp_coe]
      have := EReal.coe_lt_coe_iff.mp hjk
      exact EReal.coe_lt_coe_iff.mpr (Real.exp_lt_exp.mpr (by linarith))

/-- At the greatest entry the exponential is one. -/
theorem exp_first (h : TopTwo L a b) : Ideal.exp (L a - L a) = 1 := by
  obtain ⟨r, hr⟩ := h.first_real
  rw [hr, ← EReal.coe_sub, Ideal.exp_coe]; simp

/-- The softmax's denominator. -/
def denom {n : Nat} (L : Fin n → EReal) (a : Fin n) : EReal := 0 + ∑ k, Ideal.exp (L k - L a)

/-- The softmax of the row at column `k`. -/
def prob {n : Nat} (L : Fin n → EReal) (a k : Fin n) : EReal := Ideal.div (Ideal.exp (L k - L a)) (denom L a)

/-- The denominator is a positive real number. -/
theorem denom_real (h : TopTwo L a b) : ∃ s : ℝ, 0 < s ∧ denom L a = (s : EReal) := by
  choose x hx0 hx using h.exp_real
  refine ⟨∑ k, x k, ?_, ?_⟩
  · have h1 : x a = 1 := by
      have := (hx a).symm.trans h.exp_first
      exact_mod_cast this
    refine lt_of_lt_of_le (by rw [h1]; exact one_pos : 0 < x a) (Finset.single_le_sum (fun k _ => hx0 k) (Finset.mem_univ a))
  · unfold denom
    rw [zero_add, Finset.sum_congr rfl fun k _ => hx k]
    induction (Finset.univ : Finset (Fin n)) using Finset.induction_on with
    | empty => simp
    | insert i s hi ih => rw [Finset.sum_insert hi, Finset.sum_insert hi, ih, EReal.coe_add]

/-- A greater entry has the greater probability. -/
theorem prob_lt (h : TopTwo L a b) {j k : Fin n} (hjk : L j < L k) : prob L a j < prob L a k := by
  obtain ⟨s, hs, hS⟩ := h.denom_real
  obtain ⟨x, _, hx⟩ := h.exp_real j
  obtain ⟨y, _, hy⟩ := h.exp_real k
  have hlt := h.exp_lt hjk
  unfold prob
  rw [hx, hy] at *
  rw [hS, Ideal.div_coe hs.ne', Ideal.div_coe hs.ne', ← EReal.coe_mul, ← EReal.coe_mul]
  have := EReal.coe_lt_coe_iff.mp hlt
  exact EReal.coe_lt_coe_iff.mpr (mul_lt_mul_of_pos_right this (by positivity))

/-- The greater of the two normalised scores: the first probability over the sum of the two. -/
theorem score_first (h : TopTwo L a b) :
    Ideal.div (prob L a a) (0 + (prob L a a + prob L a b)) = Ideal.div 1 (1 + Ideal.exp (L b - L a)) := by
  obtain ⟨s, hs, hS⟩ := h.denom_real
  obtain ⟨y, hy0, hy⟩ := h.exp_real b
  unfold prob
  rw [h.exp_first, hy, hS, ← EReal.coe_one, Ideal.div_coe hs.ne', Ideal.div_coe hs.ne', ← EReal.coe_mul, ← EReal.coe_mul,
    ← EReal.coe_add, zero_add, ← EReal.coe_add, Ideal.div_coe (by positivity), Ideal.div_coe (by positivity), ← EReal.coe_mul,
    ← EReal.coe_mul]
  congr 1
  field_simp

/-- The lesser of the two normalised scores. -/
theorem score_second (h : TopTwo L a b) :
    Ideal.div (prob L a b) (0 + (prob L a a + prob L a b))
      = Ideal.div (Ideal.exp (L b - L a)) (1 + Ideal.exp (L b - L a)) := by
  obtain ⟨s, hs, hS⟩ := h.denom_real
  obtain ⟨y, hy0, hy⟩ := h.exp_real b
  unfold prob
  rw [h.exp_first, hy, hS, ← EReal.coe_one, Ideal.div_coe hs.ne', Ideal.div_coe hs.ne', ← EReal.coe_mul, ← EReal.coe_mul,
    ← EReal.coe_add, zero_add, ← EReal.coe_add, Ideal.div_coe (by positivity), Ideal.div_coe (by positivity), ← EReal.coe_mul,
    ← EReal.coe_mul]
  congr 1
  field_simp

end TopTwo

/-! ## The two columns, found by counting -/

/-- A row whose maximum is below `+∞` and held once, and whose maximum away from the entries equal to that maximum is
    held once among the entries so masked, has its two greatest columns. -/
theorem exists_topTwo {n : Nat} (hn : 1 < n) (L rest : Fin n → EReal) (M M2 : EReal)
    (hM : M = (Finset.univ : Finset (Fin n)).fold max ⊥ L) (hrest : ∀ k, rest k = if L k = M then ⊥ else L k)
    (hM2 : M2 = (Finset.univ : Finset (Fin n)).fold max ⊥ rest)
    (ones : (Finset.univ.filter fun k => L k = M).card = 1) (twos : (Finset.univ.filter fun k => rest k = M2).card = 1)
    (hfin : M < ⊤) : ∃ a b, TopTwo L a b := by
  obtain ⟨a, ha⟩ := Finset.card_eq_one.mp ones
  obtain ⟨b, hb⟩ := Finset.card_eq_one.mp twos
  have haM : ∀ k, L k = M ↔ k = a := fun k => by
    have := Finset.ext_iff.mp ha k; simpa using this
  have hbM : ∀ k, rest k = M2 ↔ k = b := fun k => by
    have := Finset.ext_iff.mp hb k; simpa using this
  have hle : ∀ k, L k ≤ M := fun k => by
    rw [hM, Finset.le_fold_max]; exact Or.inr ⟨k, Finset.mem_univ _, le_rfl⟩
  have hle2 : ∀ k, rest k ≤ M2 := fun k => by
    rw [hM2, Finset.le_fold_max]; exact Or.inr ⟨k, Finset.mem_univ _, le_rfl⟩
  have hLa : L a = M := (haM a).mpr rfl
  have hRb : rest b = M2 := (hbM b).mpr rfl
  have hRa : rest a = ⊥ := by rw [hrest, if_pos hLa]
  have hM2bot : M2 ≠ ⊥ := by
    intro e
    have hall : ∀ k, k = b := fun k => (hbM k).mp (le_antisymm (hle2 k) (by rw [e]; exact bot_le))
    have h0 := hall ⟨0, by omega⟩
    have h1 := hall ⟨1, hn⟩
    have := congrArg Fin.val (h0.trans h1.symm)
    simp at this
  have hne : b ≠ a := fun e => hM2bot (by rw [← hRb, e, hRa])
  have hR : ∀ k, k ≠ a → rest k = L k := fun k hk => by rw [hrest, if_neg fun e => hk ((haM k).mp e)]
  have hLb : L b = M2 := by rw [← hR b hne, hRb]
  refine ⟨a, b, hne, fun j hj => ?_, fun j hj hjb => ?_, by rw [hLa]; exact hfin, ?_⟩
  · rw [hLa]; exact lt_of_le_of_ne (hle j) fun e => hj ((haM j).mp e)
  · rw [hLb, ← hR j hj]; exact lt_of_le_of_ne (hle2 j) fun e => hjb ((hbM j).mp e)
  · rw [hLb]; exact bot_lt_iff_ne_bot.mpr hM2bot

/-! ## The stable sort's first two positions -/

/-- Sorting columns by a key, greater first, puts a column whose key exceeds every other at position 0 and one whose
    key exceeds every other but that at position 1. -/
theorem sortedFrom_two {n : Nat} (B : Fin n → Fin n → Bool) (p : Fin n → EReal) (hB : ∀ k k', B k k' = decide (p k' < p k))
    (a b : Fin n) (hab : b ≠ a) (ha : ∀ j, j ≠ a → p j < p a) (hb : ∀ j, j ≠ a → j ≠ b → p j < p b) (z o : Fin n)
    (hz : z.val = 0) (ho : o.val = 1) : sortedFrom B z = a ∧ sortedFrom B o = b := by
  have hno : ∀ i j : Fin n, i < j → ¬ p (sortedFrom B i) < p (sortedFrom B j) := fun i j hij => by
    have := sortedFrom_noInversion B B
      (fun x y h => by rw [hB] at h ⊢; simp only [decide_eq_true_eq, decide_eq_false_iff_not] at h ⊢; exact h.le.not_gt)
      (fun _ _ h => h)
      (fun x y w h h' => by
        rw [hB] at h h' ⊢; simp only [decide_eq_false_iff_not, not_lt] at h h' ⊢; exact h.trans h') i j hij
    rw [hB] at this
    simpa using this
  obtain ⟨u, hu⟩ := sortedFrom_surjective B a
  obtain ⟨v, hv⟩ := sortedFrom_surjective B b
  have hinj := sortedFrom_injective B
  have hua : sortedFrom B z = a := by
    by_contra hne
    have hlt : z < u := by
      rw [Fin.lt_def, hz]
      rcases Nat.eq_zero_or_pos u.val with h0 | h0
      · exact absurd (by rw [← hu]; congr 1; exact Fin.ext (by omega)) hne
      · exact h0
    exact hno z u hlt (by rw [hu]; exact ha _ hne)
  refine ⟨hua, ?_⟩
  by_contra hne
  have hvz : v ≠ z := fun e => hab (by rw [← hv, e, hua])
  have hvo : v ≠ o := fun e => hne (by rw [← e, hv])
  have hlt : o < v := by
    rw [Fin.lt_def, ho]
    have h1 : v.val ≠ 0 := fun e => hvz (Fin.ext (by omega))
    have h2 : v.val ≠ 1 := fun e => hvo (Fin.ext (by omega))
    omega
  have hoa : sortedFrom B o ≠ a := fun e => by
    have := hinj (e.trans hua.symm)
    rw [this] at ho; omega
  exact hno o v hlt (by rw [hv]; exact hb _ hoa hne)

end Cert.Row

end
-- ==== Proof.RowOps.lean ====
/-
  What the operations that work along the rows of a rank-2 array give at one row, at the ideal instance: a maximum, an
  arg-max, a sum, a count of ones, the two greatest entries, and the layout operations around them.
-/
module

public import Idealize.ShloMosaic.PureOps.Ideal
public import Idealize.ShloMosaic.PureOps.Ideal.Laws
public import Idealize.ShloMosaic.PureOps.Reduce
public import Idealize.ShloMosaic.Lib.ValueIdx
public import Idealize.ShloMosaic.Lib.Pipeline.Value
public import Idealize.ShloMosaic.Lib.IndicatorCount
public import proofs.«01_k».proof.Proof.RowMath

@[expose] public section

noncomputable section

namespace Cert.RowOps

open Idealize.ShloMosaic Idealize.ShloMosaic.ValueIdx Cert.Row

variable {R C : Nat}

/-- The words of minus infinity, plus infinity, zero and one, read as extended reals. -/
theorem word_neg_inf : Ideal.ofBits .f32 0xFF800000#32 = (⊥ : EReal) := by
  simp [Ideal.ofBits, Ideal.ieee, -EReal.coe_mul]

theorem word_pos_inf : Ideal.ofBits .f32 0x7F800000#32 = (⊤ : EReal) := by
  simp [Ideal.ofBits, Ideal.ieee, -EReal.coe_mul]

theorem word_zero : Ideal.ofBits .f32 0x00000000#32 = (0 : EReal) := by
  simp [Ideal.ofBits, Ideal.ieee, -EReal.coe_mul]

theorem word_one : Ideal.ofBits .f32 0x3F800000#32 = (1 : EReal) := by
  simp [Ideal.ofBits, Ideal.ieee, -EReal.coe_mul]; norm_num

/-- Putting column `k` back into row index `j` gives the index (row, `k`). -/
theorem lift_row (h : Shape.Reduces ⟨2, ![R, C]⟩ [1] ⟨1, ![R]⟩) (j : (⟨1, ![R]⟩ : Shape).Idx) (k : Fin C) :
    h.lift j k = ix2 (j 0) k := by
  funext c
  match c with
  | ⟨0, _⟩ => rfl
  | ⟨1, _⟩ => rfl

/-- A `stablehlo.reduce` along the rows, its body commutative and associative, is the fold over the row. -/
theorem reduce_row {α : Type} {u : Shape} (f : α → α → α) [Std.Commutative f] [Std.Associative f]
    (x : (⟨2, ![R, C]⟩ : Shape).Idx → α) (init : u.Idx → α) (h : Shape.ReducesTo ⟨2, ![R, C]⟩ [1] ⟨1, ![R]⟩) (hu : 0 < u.numel)
    (j : (⟨1, ![R]⟩ : Shape).Idx) :
    Host.reduce f x init h hu j
      = (Finset.univ : Finset (Fin C)).fold f (init (Shape.Idx.first hu)) fun k => x (ix2 (j 0) k) := by
  have h2 : Shape.Reduces ⟨2, ![R, C]⟩ [1] ⟨1, ![R]⟩ := ⟨h.1, Nat.one_pos, h.2⟩
  rw [Host.reduce_eq_fold, Shape.ReducesTo.drop_eq_drop h h2, h2.fold_filter_drop_single]
  exact Finset.fold_congr fun k _ => congrArg x (lift_row h2 j k)

/-- The reference's maximum along the rows from minus infinity. -/
theorem reduce_max_row {u : Shape} (x : FVec Ideal ⟨2, ![R, C]⟩ .f32) (init : u.Idx → Ideal .f32)
    (hinit : ∀ i, init i = (⊥ : EReal)) (h : Shape.ReducesTo ⟨2, ![R, C]⟩ [1] ⟨1, ![R]⟩) (hu : 0 < u.numel)
    (j : (⟨1, ![R]⟩ : Shape).Idx) :
    Host.reduce FloatOps.maximumf x init h hu j
      = (Finset.univ : Finset (Fin C)).fold max (⊥ : EReal) fun k => x (ix2 (j 0) k) := by
  rw [reduce_row, hinit]; rfl

/-- A count of ones along the rows, each one-bit word widened to 32 bits. -/
theorem reduce_count_row {u : Shape} (p : IVec ⟨2, ![R, C]⟩ 1) (hw : 1 < 32) (init : u.Idx → BitVec 32)
    (hinit : ∀ i, init i = 0#32) (h : Shape.ReducesTo ⟨2, ![R, C]⟩ [1] ⟨1, ![R]⟩) (hu : 0 < u.numel)
    (j : (⟨1, ![R]⟩ : Shape).Idx) :
    Host.reduce IntOp.addi (extui 32 p hw) init h hu j
      = BitVec.ofNat 32 (Finset.univ.filter fun k : Fin C => p (ix2 (j 0) k) = 1#1).card := by
  rw [reduce_row, hinit]
  exact IndicatorCount.fold_addi_setWidth_eq_card (fun k => p (ix2 (j 0) k)) Finset.univ

/-- The kernel's maximum along the rows from minus infinity. -/
theorem multiReduction_max_row (src : FVec Ideal ⟨2, ![R, C]⟩ .f32) (h : Shape.Reduces ⟨2, ![R, C]⟩ [1] ⟨1, ![R]⟩)
    (hφ : FKind.Formats .f32) (hacc : (0xFF800000#32 : BitVec 32) = FKind.maximumf.neutral .f32 hφ)
    (j : (⟨1, ![R]⟩ : Shape).Idx) :
    multiReduction .maximumf [1] ⟨1, ![R]⟩ src 0xFF800000#32 h hφ hacc j
      = (Finset.univ : Finset (Fin C)).fold max (⊥ : EReal) fun k => src (ix2 (j 0) k) := by
  rw [Ideal.multiReduction_maximumf_single]
  rw [Ideal.ofBits_def, word_neg_inf]
  exact Finset.fold_congr fun k _ => congrArg src (lift_row h j k)

/-- The reference's sum along the rows. -/
theorem reduceAdd_row {u : Shape} (x : FVec Ideal ⟨2, ![R, C]⟩ .f32) (init : u.Idx → Ideal .f32)
    (hinit : ∀ i, init i = (0 : EReal)) (h : Shape.ReducesTo ⟨2, ![R, C]⟩ [1] ⟨1, ![R]⟩) (hu : 0 < u.numel)
    (j : (⟨1, ![R]⟩ : Shape).Idx) :
    Host.reduceAdd x init h hu j = (0 : EReal) + ∑ k : Fin C, x (ix2 (j 0) k) := by
  have h2 : Shape.Reduces ⟨2, ![R, C]⟩ [1] ⟨1, ![R]⟩ := ⟨h.1, Nat.one_pos, h.2⟩
  rw [hostReduceAdd_apply, Ideal.hostReduceAdd_single h h2, hinit]
  exact congrArg ((0 : EReal) + ·) (Finset.sum_congr rfl fun k _ => congrArg x (lift_row h2 j k))

/-- The kernel's arg-max along the rows, where one column exceeds every other: that column. -/
theorem reduceIndex_row (x : FVec Ideal ⟨2, ![R, C]⟩ .f32) (h : Shape.Reduces ⟨2, ![R, C]⟩ [1] ⟨1, ![R]⟩)
    (j : (⟨1, ![R]⟩ : Shape).Idx) (a : Fin C) (ha : ∀ k, k ≠ a → (x (ix2 (j 0) k) : EReal) < x (ix2 (j 0) a)) :
    reduceIndex .argMax 1 ⟨1, ![R]⟩ x h j = BitVec.ofNat 32 a.val := by
  classical
  show Ideal.reduceIndex .argMax 1 h x j = _
  have hmem : ∀ i, h.drop i = j ↔ ∃ k : Fin C, i = ix2 (j 0) k := fun i => by
    constructor
    · intro e; exact ⟨i 1, by rw [← lift_row h j (i 1), ← e]; exact (h.lift_drop i).symm⟩
    · rintro ⟨k, rfl⟩; rw [← lift_row h j k]; exact h.drop_lift j k
  obtain ⟨I, hI⟩ : ∃ I : (⟨2, ![R, C]⟩ : Shape).Idx, I = ix2 (j 0) a := ⟨_, rfl⟩
  have hext : (Finset.univ.filter fun i : (⟨2, ![R, C]⟩ : Shape).Idx => h.drop i = j).filter
      (fun i => ∀ i' ∈ Finset.univ.filter (fun i : (⟨2, ![R, C]⟩ : Shape).Idx => h.drop i = j), ¬ (x i : EReal) < x i')
      = {I} := by
    ext i
    simp only [Finset.mem_filter, Finset.mem_univ, true_and]
    constructor
    · rintro ⟨hi, hmax⟩
      obtain ⟨k, rfl⟩ := (hmem i).mp hi
      by_cases e : k = a
      · exact Finset.mem_singleton.mpr (by rw [e, hI])
      · exact absurd (ha k e) (hmax _ ((hmem _).mpr ⟨a, rfl⟩))
    · intro hi
      rw [Finset.mem_singleton] at hi
      rw [hi, hI]
      refine ⟨(hmem _).mpr ⟨a, rfl⟩, fun i' hi' => ?_⟩
      obtain ⟨k, rfl⟩ := (hmem i').mp hi'
      by_cases e : k = a
      · rw [e]; exact lt_irrefl _
      · exact (ha k e).le.not_gt
  unfold Ideal.reduceIndex
  simp only [if_true]
  rw [hext, Finset.image_singleton, hI]
  rfl

/-- The reference's `top_k` along the rows, where column `a` exceeds every other and column `b` every other but `a`:
    its values are the entries at `a` and `b`, its indices `a` and `b`. -/
theorem topK_row (x : FVec Ideal ⟨2, ![R, C]⟩ .f32) (h : Shape.Slices ⟨2, ![R, C]⟩ (fun _ => 0) ⟨2, ![R, 2]⟩) (r : Fin R)
    (a b : Fin C) (hab : b ≠ a) (ha : ∀ k, k ≠ a → (x (ix2 r k) : EReal) < x (ix2 r a))
    (hb : ∀ k, k ≠ a → k ≠ b → (x (ix2 r k) : EReal) < x (ix2 r b)) :
    ((Host.topK ⟨2, ![R, 2]⟩ 1 (FloatOps.cmpfTotal (F := Ideal) (φ := .f32) .gt) x h).1 (ix2 r 0) = x (ix2 r a)
      ∧ (Host.topK ⟨2, ![R, 2]⟩ 1 (FloatOps.cmpfTotal (F := Ideal) (φ := .f32) .gt) x h).1 (ix2 r 1) = x (ix2 r b))
    ∧ (Host.topK ⟨2, ![R, 2]⟩ 1 (FloatOps.cmpfTotal (F := Ideal) (φ := .f32) .gt) x h).2 (ix2 r 0) = BitVec.ofNat 32 a.val
      ∧ (Host.topK ⟨2, ![R, 2]⟩ 1 (FloatOps.cmpfTotal (F := Ideal) (φ := .f32) .gt) x h).2 (ix2 r 1)
        = BitVec.ofNat 32 b.val := by
  have hC : 2 ≤ C := h.2 1
  have along : ∀ (c : Fin C) (k : Fin C), Shape.Idx.along (s := ⟨2, ![R, C]⟩) (ix2 r c) 1 k = ix2 r k := fun c k => by
    funext d
    match d with
    | ⟨0, _⟩ => rfl
    | ⟨1, _⟩ => rfl
  have slice : ∀ (o : Fin 2), (fun d : Fin 2 => (⟨0 + ((ix2 r o : (⟨2, ![R, 2]⟩ : Shape).Idx) (d.cast h.1.symm)).val,
      Nat.lt_of_lt_of_le (Nat.add_lt_add_left ((ix2 r o : (⟨2, ![R, 2]⟩ : Shape).Idx) _).isLt _) (h.2 d)⟩ :
        Fin ((⟨2, ![R, C]⟩ : Shape).size d))) = (ix2 r (o.castLE hC) : (⟨2, ![R, C]⟩ : Shape).Idx) := fun o => by
    funext d
    apply Fin.ext
    match d with
    | ⟨0, _⟩ => exact Nat.zero_add _
    | ⟨1, _⟩ => exact Nat.zero_add _
  let J : (⟨2, ![R, C]⟩ : Shape).Idx → Fin C := fun i =>
    sortedFrom (fun k k' : Fin C => FloatOps.cmpfTotal (F := Ideal) (φ := .f32) .gt
      (x (Shape.Idx.along (s := ⟨2, ![R, C]⟩) i 1 k)) (x (Shape.Idx.along (s := ⟨2, ![R, C]⟩) i 1 k')) == 1#1) (i 1)
  have sorted : ∀ c z o : Fin C, z.val = 0 → o.val = 1 → _ := fun c z o hz ho => sortedFrom_two
    (fun k k' : Fin C => FloatOps.cmpfTotal (F := Ideal) (φ := .f32) .gt
      (x (Shape.Idx.along (s := ⟨2, ![R, C]⟩) (ix2 r c) 1 k)) (x (Shape.Idx.along (s := ⟨2, ![R, C]⟩) (ix2 r c) 1 k')) == 1#1)
    (fun k => x (ix2 r k))
    (fun k k' => by
      rw [along, along]
      show (BitVec.ofBool (decide ((x (ix2 r k') : EReal) < x (ix2 r k))) == 1#1) = _
      cases decide ((x (ix2 r k') : EReal) < x (ix2 r k)) <;> rfl)
    a b hab ha hb z o hz ho
  have val : ∀ o : Fin 2, (Host.topK ⟨2, ![R, 2]⟩ 1 (FloatOps.cmpfTotal (F := Ideal) (φ := .f32) .gt) x h).1 (ix2 r o)
      = x (ix2 r (J (ix2 r (o.castLE hC)))) := fun o =>
    (congrArg (fun i : (⟨2, ![R, C]⟩ : Shape).Idx => x (Shape.Idx.along (s := ⟨2, ![R, C]⟩) i 1 (J i))) (slice o)).trans
      (congrArg x (along _ _))
  have idx : ∀ o : Fin 2, (Host.topK ⟨2, ![R, 2]⟩ 1 (FloatOps.cmpfTotal (F := Ideal) (φ := .f32) .gt) x h).2 (ix2 r o)
      = BitVec.ofNat 32 (J (ix2 r (o.castLE hC))).val := fun o =>
    (congrArg (fun i : (⟨2, ![R, C]⟩ : Shape).Idx => iotaInDim ⟨2, ![R, C]⟩ 32 1
      (Shape.Idx.along (s := ⟨2, ![R, C]⟩) i 1 (J i))) (slice o)).trans
      (congrArg (iotaInDim ⟨2, ![R, C]⟩ 32 1) (along _ _))
  have h0 : J (ix2 r ((0 : Fin 2).castLE hC)) = a := (sorted _ _ ((1 : Fin 2).castLE hC) rfl rfl).1
  have h1 : J (ix2 r ((1 : Fin 2).castLE hC)) = b := (sorted _ ((0 : Fin 2).castLE hC) _ rfl rfl).2
  exact ⟨⟨by rw [val, h0], by rw [val, h1]⟩, by rw [idx, h0], by rw [idx, h1]⟩

end Cert.RowOps

end
-- ==== Proof.Logits.lean ====
/-
  The rows of logits of the router: a row of hidden states against every expert's weights, and the reference's product,
  whose right operand is the transposed weights, read as these rows.
-/
module

public import Idealize.ShloMosaic.Lib.StackMember
public import proofs.«01_k».proof.Proof.RowOps

@[expose] public section

noncomputable section

namespace Cert.RowOps

open Idealize.ShloMosaic Idealize.ShloMosaic.ValueIdx

/-- A row of logits of the hidden states `x0` against the weights `x1`: one logit for each of the 64 experts. -/
def rowLogits {R : Nat} (x0 : (⟨2, ![R, 2048]⟩ : Shape).Idx → EReal) (x1 : (⟨2, ![64, 2048]⟩ : Shape).Idx → EReal) (r : Fin R) :
    Fin 64 → EReal := fun k => ∑ q : Fin 2048, x0 (ix2 r q) * x1 (ix2 k q)

/-- The product with the transposed weights is the rows of logits. -/
theorem dot_transposed_apply {R : Nat} (x0 : FVec Ideal ⟨2, ![R, 2048]⟩ .f32) (x1 : FVec Ideal ⟨2, ![64, 2048]⟩ .f32)
    (ht : Shape.Transposes ⟨2, ![64, 2048]⟩ [1, 0] ⟨2, ![2048, 64]⟩) (r : Fin R) (k : Fin 64) :
    Host.dotGeneral (DotDims.plain R 2048 64) none x0 (transpose ⟨2, ![2048, 64]⟩ [1, 0] x1 ht) (ix2 r k) = rowLogits x0 x1 r k := by
  refine (StackMember.dotGeneral_plain_apply _ _ _ _ _).trans ?_
  show _ = ∑ q : Fin 2048, (x0 (ix2 r q) : EReal) * (x1 (ix2 k q) : EReal)
  exact Finset.sum_congr rfl fun q _ => congrArg (fun z : EReal => (x0 (ix2 r q) : EReal) * z)
    (transpose_apply [1, 0] x1 ht (ix2 q k) (ix2 k q) fun d => by
      match d with
      | ⟨0, _⟩ => rfl
      | ⟨1, _⟩ => rfl)

variable {α : Type} {R : Nat}

/-- A row's value, put into a column and spread along the row, is that value at every column. -/
theorem spread_apply {C : Nat} (v : (⟨1, ![R]⟩ : Shape).Idx → α) (h₁ : Shape.BroadcastsInDim ⟨1, ![R]⟩ ⟨2, ![R, 1]⟩ ![0])
    (h₂ : Shape.BroadcastsInDim ⟨2, ![R, 1]⟩ ⟨2, ![R, C]⟩ ![0, 1]) (hR : R ≠ 1) (r : Fin R) (k : Fin C) :
    broadcastInDim ⟨2, ![R, C]⟩ ![0, 1] h₂ (broadcastInDim ⟨2, ![R, 1]⟩ ![0] h₁ v) (ix2 r k) = v (ix1 r) := by
  refine (broadcastInDim_apply ![0, 1] h₂ _ (ix2 r k) (ix2 r 0) ?_).trans
    (broadcastInDim_apply ![0] h₁ v (ix2 r 0) (ix1 r) ?_)
  · intro d
    match d with
    | ⟨0, _⟩ => simp [hR]; rfl
    | ⟨1, _⟩ => simp
  · intro d
    match d with
    | ⟨0, _⟩ => simp [hR]; rfl

end Cert.RowOps

end
-- ==== Proof.KernelBlock.lean ====
/-
  What the kernel's body computes from one block of rows, row by row, at the ideal instance: the logits, and, where the
  row of logits has its two greatest columns, the two scores and the two indices.
-/
module

public import proofs.«01_k».proof.Proof.Gen.KernelIdeal.Value
public import Idealize.ShloMosaic.Lib.MatmulPlain
public import proofs.«01_k».proof.Proof.Logits

@[expose] public section

noncomputable section

namespace Cert.KernelBlock

open Idealize.ShloMosaic Idealize.ShloMosaic.ValueIdx Cert.Row Cert.RowOps
open Cert.KernelIdeal Cert.KernelIdeal.Gen

/-- The printed dimension numbers are those of a product with a transposed right operand. -/
theorem dims_eq : dot_S2048x2048_S64x2048_S2048x64_1_1_0_0_n_n = DotDims.transposedRhs 2048 2048 64 := rfl

variable (x0 : Vec Ideal S2048x2048 .f32) (x1 : Vec Ideal S64x2048 .f32)

/-- The product is the row's logits. -/
theorem pay1_apply (r : Fin 2048) (k : Fin 64) : k0_pay1 (F := Ideal) x0 x1 (ix2 r k) = rowLogits x0 x1 r k := by
  unfold k0_pay1
  rw [shapeCast_self, dims_eq]
  unfold matmul
  rw [Ideal.matmul_transposedRhs_apply]
  show Ideal.ofBits .f32 0x00000000#32 + _ = _
  rw [word_zero, zero_add]
  rfl

/-- A column of 2048 entries laid out as a 2048 by 1 array keeps its entries. -/
theorem column_apply {α : Type} (v : S2048.Idx → α) (r : Fin 2048) :
    shapeCast S2048x1 v shapeCasts_S2048_S2048x1 (ix2 r 0) = v (ix1 r) := by
  exact shapeCast_apply _ _ _ _ (by
    rw [Shape.rowMajor_val_one, Shape.rowMajor_val_two]
    show r.val = r.val * 1 + 0
    omega)

section

variable {x0 x1} {r : Fin 2048} {a b : Fin 64} (h : TopTwo (rowLogits x0 x1 r) a b)
include h

/-- The first arg-max is the column of the greatest logit. -/
theorem pay2_apply : k0_pay2 (F := Ideal) x0 x1 (ix2 r 0) = BitVec.ofNat 32 a.val := by
  unfold k0_pay2
  rw [column_apply]
  exact reduceIndex_row _ _ _ a fun k hk => by
    show k0_pay1 (F := Ideal) x0 x1 (ix2 r k) < k0_pay1 (F := Ideal) x0 x1 (ix2 r a)
    rw [pay1_apply, pay1_apply]; exact h.first k hk

/-- The masked product is the row's logits with the greatest put to minus infinity. -/
theorem pay3_apply (k : Fin 64) : k0_pay3 (F := Ideal) x0 x1 (ix2 r k) = masked (rowLogits x0 x1 r) a k := by
  have hb : broadcastTo S2048x64 (k0_pay2 (F := Ideal) x0 x1) broadcasts_S2048x1_S2048x64 (ix2 r k) = BitVec.ofNat 32 a.val := by
    rw [← pay2_apply h]
    exact broadcastTo_apply _ _ _ _ fun d => by
      match d with
      | ⟨0, _⟩ => rfl
      | ⟨1, _⟩ => rfl
  have hi : iota .tc S2048x64 32 [1] iota_S2048x64_d1_w32 (ix2 r k) = BitVec.ofNat 32 k.val :=
    iota_single_apply _ _ _ _ _ _
  unfold k0_pay3
  dsimp only
  show (if IntOp.cmpi .eq (iota .tc S2048x64 32 [1] iota_S2048x64_d1_w32 (ix2 r k))
      (broadcastTo S2048x64 (k0_pay2 (F := Ideal) x0 x1) broadcasts_S2048x1_S2048x64 (ix2 r k)) = 1#1
    then Ideal.ofBits .f32 0xFF800000#32 else k0_pay1 (F := Ideal) x0 x1 (ix2 r k)) = _
  rw [hb, hi, pay1_apply, word_neg_inf]
  unfold masked
  have hiff : IntOp.cmpi .eq (BitVec.ofNat 32 k.val) (BitVec.ofNat 32 a.val) = 1#1 ↔ k = a := by
    show BitVec.ofBool (BitVec.ofNat 32 k.val == BitVec.ofNat 32 a.val) = 1#1 ↔ k = a
    constructor
    · intro e
      have e' : BitVec.ofNat 32 k.val = BitVec.ofNat 32 a.val := by
        by_contra hne
        rw [beq_eq_false_iff_ne.mpr hne] at e
        exact absurd e (by decide)
      have e'' := congrArg BitVec.toNat e'
      rw [BitVec.toNat_ofNat, BitVec.toNat_ofNat] at e''
      have hk := k.isLt
      have ha := a.isLt
      exact Fin.ext (by omega)
    · rintro rfl
      rw [beq_self_eq_true]; rfl
  by_cases e : k = a
  · rw [if_pos (hiff.mpr e), if_pos e]
  · rw [if_neg (fun e' => e (hiff.mp e')), if_neg e]

/-- The row's maximum is its first logit. -/
theorem max1_apply : multiReduction .maximumf [1] S2048 (k0_pay1 (F := Ideal) x0 x1) 0xFF800000#32 reduces_S2048x64_S2048 (.inl rfl) rfl
    (ix1 r) = rowLogits x0 x1 r a := by
  rw [← h.max_eq]
  exact (multiReduction_max_row _ _ _ _ _).trans (Finset.fold_congr fun k _ => pay1_apply x0 x1 r k)

/-- The maximum of the masked row is the second logit. -/
theorem max2_apply : multiReduction .maximumf [1] S2048 (k0_pay3 (F := Ideal) x0 x1) 0xFF800000#32 reduces_S2048x64_S2048 (.inl rfl) rfl
    (ix1 r) = rowLogits x0 x1 r b := by
  rw [← h.masked_max_eq]
  exact (multiReduction_max_row _ _ _ _ _).trans (Finset.fold_congr fun k _ => pay3_apply h k)

/-- The greater score. -/
theorem pay4_apply_first : k0_pay4 (F := Ideal) x0 x1 (ix2 r 0)
    = Ideal.div 1 (1 + Ideal.exp (rowLogits x0 x1 r b - rowLogits x0 x1 r a)) := by
  unfold k0_pay4
  dsimp only
  rw [concatenate_pair_apply_left (t := S2048x2) (s₁ := S2048x1) (s₂ := S2048x1) 1 _ _ _ (ix2 r 0) rfl (ix2 r 0)
    (fun d => by match d with | ⟨0, _⟩ => rfl | ⟨1, _⟩ => rfl)]
  simp only [divf, addf, exp, subf, broadcast, column_apply, max1_apply h, max2_apply h]
  show Ideal.div (Ideal.ofBits .f32 0x3F800000#32) (Ideal.ofBits .f32 0x3F800000#32 + _) = _
  rw [word_one]; rfl

/-- The lesser score. -/
theorem pay4_apply_second : k0_pay4 (F := Ideal) x0 x1 (ix2 r 1)
    = Ideal.div (Ideal.exp (rowLogits x0 x1 r b - rowLogits x0 x1 r a))
        (1 + Ideal.exp (rowLogits x0 x1 r b - rowLogits x0 x1 r a)) := by
  unfold k0_pay4
  dsimp only
  rw [concatenate_pair_apply_right (t := S2048x2) (s₁ := S2048x1) (s₂ := S2048x1) 1 _ _ _ (ix2 r 1) rfl rfl (ix2 r 0)
    (fun d hd => by match d with | ⟨0, _⟩ => rfl | ⟨1, _⟩ => exact absurd rfl hd) rfl]
  simp only [divf, addf, exp, subf, broadcast, column_apply, max1_apply h, max2_apply h]
  show Ideal.div _ (Ideal.ofBits .f32 0x3F800000#32 + _) = _
  rw [word_one]; rfl

/-- The first index. -/
theorem pay5_apply_first : k0_pay5 (F := Ideal) x0 x1 (ix2 r 0) = BitVec.ofNat 32 a.val := by
  unfold k0_pay5
  rw [concatenate_pair_apply_left (t := S2048x2) (s₁ := S2048x1) (s₂ := S2048x1) 1 _ _ _ (ix2 r 0) rfl (ix2 r 0)
    (fun d => by match d with | ⟨0, _⟩ => rfl | ⟨1, _⟩ => rfl)]
  exact pay2_apply h

/-- The second index. -/
theorem pay5_apply_second : k0_pay5 (F := Ideal) x0 x1 (ix2 r 1) = BitVec.ofNat 32 b.val := by
  unfold k0_pay5
  rw [concatenate_pair_apply_right (t := S2048x2) (s₁ := S2048x1) (s₂ := S2048x1) 1 _ _ _ (ix2 r 1) rfl rfl (ix2 r 0)
    (fun d hd => by match d with | ⟨0, _⟩ => rfl | ⟨1, _⟩ => exact absurd rfl hd) rfl, column_apply]
  exact reduceIndex_row _ _ _ b fun k hk => by
    show k0_pay3 (F := Ideal) x0 x1 (ix2 r k) < k0_pay3 (F := Ideal) x0 x1 (ix2 r b)
    rw [pay3_apply h, pay3_apply h]; exact h.masked_lt k hk

end

end Cert.KernelBlock

end
-- ==== Proof.KernelArrays.lean ====
/-
  The kernel's three result arrays after the run, at the ideal instance, as functions of the arguments: the logits at
  every index, and, in a row whose logits have two greatest columns, the scores and the indices.
-/
module

public import proofs.«01_k».proof.Proof.KernelBlock
public import Idealize.ShloMosaic.Lib.Pipeline.ValueKit.Geometry

@[expose] public section

noncomputable section

namespace Cert.KernelArrays

open Idealize.ShloMosaic Idealize.ShloMosaic.ValueIdx Idealize.ShloMosaic.TcCoe Cert.Row Cert.RowOps Cert.KernelBlock
open Cert.KernelIdeal Cert.KernelIdeal.Gen
open Idealize.ShloMosaic.Pipeline (Dat)

variable (m : (ℓ : Loc nD τ sig) → Buf (Elt Ideal) ℓ)

/-- The hidden states as the kernel finds them: the first argument with its batch and sequence axes merged. -/
def hidden (c : Dev nD) : Vec Ideal S16384x2048 .f32 :=
  shapeCast S16384x2048 (m ((c : Thread nD τ).loc main_arg0)) shapeCasts_S4x4096x2048_S16384x2048

/-- The weights: the second argument. -/
def weights (c : Dev nD) : Vec Ideal S64x2048 .f32 := m ((c : Thread nD τ).loc main_arg1)

/-- The region finds the merged hidden states in the kernel's first operand. -/
theorem V_main_v0 (c : Dev nD) : V m c main_v0 = hidden m c := by
  simp only [V, hostOps0, StableHlo.after]
  rfl

/-- Point `t`'s block of hidden states is rows `2048 t` to `2048 t + 2047`. -/
theorem block0 (c : Dev nD) (t : Fin cfg0.N) (r q : Fin 2048) (i : Fin 16384) (hi : i.val = t.val * 2048 + r.val) :
    iblk m c 0 t (ix2 r q) = hidden m c (ix2 i q) := by
  have e : ∀ t : Fin cfg0.N, win0_0.index t = ![t.val, 0] :=
    (by decide +kernel : ∀ t : Fin grid0.N, win0_0.index t = ![t.val, 0])
  rw [← V_main_v0]
  unfold iblk
  rw [View.read_apply]
  show V m c main_v0 _ = V m c main_v0 _
  congr 1
  funext a
  apply Fin.ext
  match a with
  | ⟨0, _⟩ => show win0_0.index t 0 * 2048 + 1 * r.val = i.val; rw [e]; show t.val * 2048 + 1 * r.val = i.val; omega
  | ⟨1, _⟩ => show win0_0.index t 1 * 2048 + 1 * q.val = q.val; rw [e]; show 0 * 2048 + 1 * q.val = q.val; omega

/-- Every point's block of weights is the whole array. -/
theorem block1 (c : Dev nD) (t : Fin cfg0.N) (k : Fin 64) (q : Fin 2048) : iblk m c 1 t (ix2 k q) = weights m c (ix2 k q) := by
  have e : ∀ t : Fin cfg0.N, win0_1.index t = ![0, 0] :=
    (by decide +kernel : ∀ t : Fin grid0.N, win0_1.index t = ![0, 0])
  show _ = m ((c : Thread nD τ).loc main_arg1) (ix2 k q)
  rw [← V_main_arg1 m c]
  unfold iblk
  rw [View.read_apply]
  show V m c main_arg1 _ = V m c main_arg1 _
  congr 1
  funext a
  apply Fin.ext
  match a with
  | ⟨0, _⟩ => show win0_1.index t 0 * 64 + 1 * k.val = k.val; rw [e]; show 0 * 64 + 1 * k.val = k.val; omega
  | ⟨1, _⟩ => show win0_1.index t 1 * 2048 + 1 * q.val = q.val; rw [e]; show 0 * 2048 + 1 * q.val = q.val; omega

/-- The logits of row `i`. -/
def logits (c : Dev nD) (i : Fin 16384) : Fin 64 → EReal := rowLogits (hidden m c) (weights m c) i

/-- Row `r` of point `t`'s block has the logits of row `2048 t + r`. -/
theorem rowLogits_block (c : Dev nD) (t : Fin cfg0.N) (r : Fin 2048) (i : Fin 16384) (hi : i.val = t.val * 2048 + r.val) :
    rowLogits (R := 2048) (iblk m c 0 t) (iblk m c 1 t) r = logits m c i := by
  funext k
  exact Finset.sum_congr rfl fun q _ =>
    congrArg₂ (fun u v : EReal => u * v) (block0 m c t r q i hi) (block1 m c t k q)

/-- The zero start of a whole-block access. -/
theorem start_zero : (![0, 0] : Fin 2 → Nat) = fun _ => 0 := funext fun a => by fin_cases a <;> rfl

/-- What a point leaves in its block of logits. -/
theorem out2_eq (x0 : Vec Ideal S2048x2048 .f32) (x1 : Vec Ideal S64x2048 .f32) : out0_2 x0 x1 = k0_pay1 x0 x1 := by
  unfold out0_2
  rw [View.canon_unit_zero (S := S2048x64) start_zero, View.ld_unit_zero (S := S2048x2048) start_zero,
    View.ld_unit_zero (S := S64x2048) start_zero]

/-- What a point leaves in its block of scores. -/
theorem out3_eq (x0 : Vec Ideal S2048x2048 .f32) (x1 : Vec Ideal S64x2048 .f32) : out0_3 x0 x1 = k0_pay4 x0 x1 := by
  unfold out0_3
  rw [View.canon_unit_zero (S := S2048x2) start_zero, View.ld_unit_zero (S := S2048x2048) start_zero,
    View.ld_unit_zero (S := S64x2048) start_zero]

/-- What a point leaves in its block of indices. -/
theorem out4_eq (x0 : Vec Ideal S2048x2048 .f32) (x1 : Vec Ideal S64x2048 .f32) : out0_4 x0 x1 = k0_pay5 x0 x1 := by
  unfold out0_4
  rw [View.canon_unit_zero (S := S2048x2) start_zero, View.ld_unit_zero (S := S2048x2048) start_zero,
    View.ld_unit_zero (S := S64x2048) start_zero]

/-- Row `r` of point `t`'s block of logits is row `2048 t + r` of the final array. -/
theorem array2_apply (c : Dev nD) (t : Fin cfg0.N) (r : Fin 2048) (i : Fin 16384) (hi : i.val = t.val * 2048 + r.val) (k : Fin 64) :
    (dats m 0 c).arrAt 2 cfg0.N (ix2 i k) = k0_pay1 (F := Ideal) (iblk m c 0 t) (iblk m c 1 t) (ix2 r k) := by
  have e : ∀ t : Fin cfg0.N, win0_2.index t = ![t.val, 0] :=
    (by decide +kernel : ∀ t : Fin grid0.N, win0_2.index t = ![t.val, 0])
  have h := congrFun (Cert.KernelIdeal.Value.blocks2 m c t (flush0_2 t)) (ix2 r k)
  rw [Cert.KernelIdeal.Value.flushed2, out2_eq, View.read_apply] at h
  refine Eq.trans ?_ h
  show (dats m 0 c).arrAt 2 cfg0.N _ = (dats m 0 c).arrAt 2 cfg0.N _
  congr 1
  funext a
  apply Fin.ext
  match a with
  | ⟨0, _⟩ => show i.val = win0_2.index t 0 * 2048 + 1 * r.val; rw [e]; show i.val = t.val * 2048 + 1 * r.val; omega
  | ⟨1, _⟩ => show k.val = win0_2.index t 1 * 64 + 1 * k.val; rw [e]; show k.val = 0 * 64 + 1 * k.val; omega

/-- Row `r` of point `t`'s block of scores is row `2048 t + r` of the final array. -/
theorem array3_apply (c : Dev nD) (t : Fin cfg0.N) (r : Fin 2048) (i : Fin 16384) (hi : i.val = t.val * 2048 + r.val) (k : Fin 2) :
    (dats m 0 c).arrAt 3 cfg0.N (ix2 i k) = k0_pay4 (F := Ideal) (iblk m c 0 t) (iblk m c 1 t) (ix2 r k) := by
  have e : ∀ t : Fin cfg0.N, win0_3.index t = ![t.val, 0] :=
    (by decide +kernel : ∀ t : Fin grid0.N, win0_3.index t = ![t.val, 0])
  have h := congrFun (Cert.KernelIdeal.Value.blocks3 m c t (flush0_3 t)) (ix2 r k)
  rw [Cert.KernelIdeal.Value.flushed3, out3_eq, View.read_apply] at h
  refine Eq.trans ?_ h
  show (dats m 0 c).arrAt 3 cfg0.N _ = (dats m 0 c).arrAt 3 cfg0.N _
  congr 1
  funext a
  apply Fin.ext
  match a with
  | ⟨0, _⟩ => show i.val = win0_3.index t 0 * 2048 + 1 * r.val; rw [e]; show i.val = t.val * 2048 + 1 * r.val; omega
  | ⟨1, _⟩ => show k.val = win0_3.index t 1 * 2 + 1 * k.val; rw [e]; show k.val = 0 * 2 + 1 * k.val; omega

/-- Row `r` of point `t`'s block of indices is row `2048 t + r` of the final array. -/
theorem array4_apply (c : Dev nD) (t : Fin cfg0.N) (r : Fin 2048) (i : Fin 16384) (hi : i.val = t.val * 2048 + r.val) (k : Fin 2) :
    (dats m 0 c).arrAt 4 cfg0.N (ix2 i k) = k0_pay5 (F := Ideal) (iblk m c 0 t) (iblk m c 1 t) (ix2 r k) := by
  have e : ∀ t : Fin cfg0.N, win0_4.index t = ![t.val, 0] :=
    (by decide +kernel : ∀ t : Fin grid0.N, win0_4.index t = ![t.val, 0])
  have h := congrFun (Cert.KernelIdeal.Value.blocks4 m c t (flush0_4 t)) (ix2 r k)
  rw [Cert.KernelIdeal.Value.flushed4, out4_eq, View.read_apply] at h
  refine Eq.trans ?_ h
  show (dats m 0 c).arrAt 4 cfg0.N _ = (dats m 0 c).arrAt 4 cfg0.N _
  congr 1
  funext a
  apply Fin.ext
  match a with
  | ⟨0, _⟩ => show i.val = win0_4.index t 0 * 2048 + 1 * r.val; rw [e]; show i.val = t.val * 2048 + 1 * r.val; omega
  | ⟨1, _⟩ => show k.val = win0_4.index t 1 * 2 + 1 * k.val; rw [e]; show k.val = 0 * 2 + 1 * k.val; omega

/-- Every row lies in some point's block. -/
theorem exists_point (i : Fin 16384) : ∃ (t : Fin cfg0.N) (r : Fin 2048), i.val = t.val * 2048 + r.val := by
  have hN : grid0.N = 8 := by decide +kernel
  have hi := i.isLt
  refine ⟨⟨i.val / 2048, ?_⟩, ⟨i.val % 2048, Nat.mod_lt _ (by decide)⟩, ?_⟩
  · show i.val / 2048 < grid0.N
    rw [hN]; omega
  · show i.val = i.val / 2048 * 2048 + i.val % 2048
    omega

/-- The array of logits. -/
theorem logits_array (c : Dev nD) (i : Fin 16384) (k : Fin 64) : (dats m 0 c).arrAt 2 cfg0.N (ix2 i k) = logits m c i k := by
  obtain ⟨t, r, hi⟩ := exists_point i
  rw [array2_apply m c t r i hi, pay1_apply, rowLogits_block m c t r i hi]

section

variable {m} {c : Dev nD} {i : Fin 16384} {a b : Fin 64} (h : TopTwo (logits m c i) a b)
include h

/-- The array of scores, first column. -/
theorem scores_array_first : (dats m 0 c).arrAt 3 cfg0.N (ix2 i 0)
    = Ideal.div 1 (1 + Ideal.exp (logits m c i b - logits m c i a)) := by
  obtain ⟨t, r, hi⟩ := exists_point i
  have e := rowLogits_block m c t r i hi
  rw [array3_apply m c t r i hi, ← e]
  rw [← e] at h
  exact pay4_apply_first h

/-- The array of scores, second column. -/
theorem scores_array_second : (dats m 0 c).arrAt 3 cfg0.N (ix2 i 1)
    = Ideal.div (Ideal.exp (logits m c i b - logits m c i a)) (1 + Ideal.exp (logits m c i b - logits m c i a)) := by
  obtain ⟨t, r, hi⟩ := exists_point i
  have e := rowLogits_block m c t r i hi
  rw [array3_apply m c t r i hi, ← e]
  rw [← e] at h
  exact pay4_apply_second h

/-- The array of indices, first column. -/
theorem indices_array_first : (dats m 0 c).arrAt 4 cfg0.N (ix2 i 0) = BitVec.ofNat 32 a.val := by
  obtain ⟨t, r, hi⟩ := exists_point i
  rw [← rowLogits_block m c t r i hi] at h
  rw [array4_apply m c t r i hi]
  exact pay5_apply_first h

/-- The array of indices, second column. -/
theorem indices_array_second : (dats m 0 c).arrAt 4 cfg0.N (ix2 i 1) = BitVec.ofNat 32 b.val := by
  obtain ⟨t, r, hi⟩ := exists_point i
  rw [← rowLogits_block m c t r i hi] at h
  rw [array4_apply m c t r i hi]
  exact pay5_apply_second h

end

end Cert.KernelArrays

end
-- ==== Proof.RefRow.lean ====
/-
  What the reference computes in one row, at the ideal instance, where the row's logits have two greatest columns: the
  softmax, its two greatest entries with their columns, and these two entries divided by their sum.
-/
module

public import proofs.«01_k».proof.Proof.Gen.ReferenceIdeal.Run
public import proofs.«01_k».proof.Proof.Logits

@[expose] public section

noncomputable section

namespace Cert.RefRow

open Idealize.ShloMosaic Idealize.ShloMosaic.ValueIdx Cert.Row Cert.RowOps
open Cert.ReferenceIdeal Cert.ReferenceIdeal.Gen

/-- The reference's logits. -/
def X (h : FVec Ideal S16384x2048 .f32) (w : FVec Ideal S64x2048 .f32) : FVec Ideal S16384x64 .f32 :=
  Host.dotGeneral dot_S16384x2048_S2048x64_S16384x64_1_0_0_1_n_n none h (transpose S2048x64 [1, 0] w transposes_S64x2048_S2048x64_1_0)

/-- The reference's row maximum. -/
def M (x : FVec Ideal S16384x64 .f32) : FVec Ideal S16384 .f32 :=
  maximumf (broadcastInDim S16384 ![] bcast_S_S16384 (constant S_ .f32 0xFF800000#32))
    (Host.reduce FloatOps.maximumf x (constant S_ .f32 0xFF800000#32) reducesTo_S16384x64_S16384_d1 h_S_)

/-- The reference's exponentials. -/
def E (x : FVec Ideal S16384x64 .f32) : FVec Ideal S16384x64 .f32 :=
  Host.exp (subf x (broadcastInDim S16384x64 ![0, 1] bcast_S16384x1_S16384x64_0_1
    (broadcastInDim S16384x1 ![0] bcast_S16384_S16384x1_0 (M x))))

/-- The reference's probabilities. -/
def P (x : FVec Ideal S16384x64 .f32) : FVec Ideal S16384x64 .f32 :=
  Host.divf (E x) (broadcastInDim S16384x64 ![0, 1] bcast_S16384x1_S16384x64_0_1 (broadcastInDim S16384x1 ![0] bcast_S16384_S16384x1_0
    (Host.reduceAdd (E x) (constant S_ .f32 0x00000000#32) reducesTo_S16384x64_S16384_d1 h_S_)))

/-- The two greatest probabilities. -/
def T (x : FVec Ideal S16384x64 .f32) : FVec Ideal S16384x2 .f32 :=
  (Host.topK S16384x2 1 (FloatOps.cmpfTotal (F := Ideal) (φ := .f32) .gt) (P x) sliceFits_S16384x64_S16384x2).1

/-- Their columns. -/
def I (x : FVec Ideal S16384x64 .f32) : IVec S16384x2 32 :=
  (Host.topK S16384x2 1 (FloatOps.cmpfTotal (F := Ideal) (φ := .f32) .gt) (P x) sliceFits_S16384x64_S16384x2).2

/-- The scores. -/
def S (x : FVec Ideal S16384x64 .f32) : FVec Ideal S16384x2 .f32 :=
  Host.divf (T x) (broadcastInDim S16384x2 ![0, 1] bcast_S16384x1_S16384x2_0_1 (broadcastInDim S16384x1 ![0] bcast_S16384_S16384x1_0
    (Host.reduceAdd (T x) (constant S_ .f32 0x00000000#32) reducesTo_S16384x2_S16384_d1 h_S_)))

/-- The reference's logits are the rows of logits. -/
theorem X_apply (h : FVec Ideal S16384x2048 .f32) (w : FVec Ideal S64x2048 .f32) (r : Fin 16384) (k : Fin 64) :
    X h w (ix2 r k) = rowLogits h w r k :=
  dot_transposed_apply h w transposes_S64x2048_S2048x64_1_0 r k

/-- A host quotient at an index. -/
theorem divf_apply {s : Shape} (y z : FVec Ideal s .f32) (i : s.Idx) : Host.divf y z i = Ideal.div (y i) (z i) := rfl

/-- A host exponential of a difference at an index. -/
theorem exp_subf_apply {s : Shape} (y z : FVec Ideal s .f32) (i : s.Idx) :
    Host.exp (subf y z) i = Ideal.exp ((y i : EReal) - (z i : EReal)) := rfl

section

variable {x : FVec Ideal S16384x64 .f32} {r : Fin 16384} {L : Fin 64 → EReal} (hx : ∀ k, x (ix2 r k) = L k) {a b : Fin 64}
  (h : TopTwo L a b)
include hx h

/-- The row maximum is the first logit. -/
theorem M_apply : M x (ix1 r) = L a := by
  have e : Host.reduce FloatOps.maximumf x (constant S_ .f32 0xFF800000#32) reducesTo_S16384x64_S16384_d1 h_S_ (ix1 r) = L a := by
    rw [← h.max_eq]
    exact (reduce_max_row x _ (fun _ => word_neg_inf) _ _ _).trans (Finset.fold_congr fun k _ => hx k)
  show max (Ideal.ofBits .f32 0xFF800000#32)
    (Host.reduce FloatOps.maximumf x (constant S_ .f32 0xFF800000#32) reducesTo_S16384x64_S16384_d1 h_S_ (ix1 r)) = L a
  rw [e, word_neg_inf]
  exact max_eq_right bot_le

/-- The exponentials. -/
theorem E_apply (k : Fin 64) : E x (ix2 r k) = Ideal.exp (L k - L a) := by
  unfold E
  rw [exp_subf_apply]
  rw [hx, spread_apply (R := 16384) (C := 64) _ _ _ (by decide) r k, M_apply hx h]

/-- The probabilities. -/
theorem P_apply (k : Fin 64) : P x (ix2 r k) = TopTwo.prob L a k := by
  have e : Host.reduceAdd (E x) (constant S_ .f32 0x00000000#32) reducesTo_S16384x64_S16384_d1 h_S_ (ix1 r) = TopTwo.denom L a := by
    refine (reduceAdd_row _ _ (fun _ => word_zero) _ _ _).trans ?_
    exact congrArg (fun z : EReal => 0 + z) (Finset.sum_congr rfl fun k _ => E_apply hx h k)
  unfold P
  rw [divf_apply]
  rw [E_apply hx h, spread_apply (R := 16384) (C := 64) _ _ _ (by decide) r k, e]
  rfl

/-- The two greatest probabilities and their columns. -/
theorem top_apply : (T x (ix2 r 0) = TopTwo.prob L a a ∧ T x (ix2 r 1) = TopTwo.prob L a b)
    ∧ I x (ix2 r 0) = BitVec.ofNat 32 a.val ∧ I x (ix2 r 1) = BitVec.ofNat 32 b.val := by
  have e := topK_row (P x) sliceFits_S16384x64_S16384x2 r a b h.ne
    (fun k hk => by rw [P_apply hx h, P_apply hx h]; exact h.prob_lt (h.first k hk))
    (fun k hk hk' => by rw [P_apply hx h, P_apply hx h]; exact h.prob_lt (h.second k hk hk'))
  rw [P_apply hx h, P_apply hx h] at e
  exact e

/-- The sum of the two greatest probabilities. -/
theorem total_apply : Host.reduceAdd (T x) (constant S_ .f32 0x00000000#32) reducesTo_S16384x2_S16384_d1 h_S_ (ix1 r)
    = 0 + (TopTwo.prob L a a + TopTwo.prob L a b) := by
  refine (reduceAdd_row _ _ (fun _ => word_zero) _ _ _).trans ?_
  rw [Fin.sum_univ_two]
  show (0 : EReal) + ((T x (ix2 r 0) : EReal) + (T x (ix2 r 1) : EReal)) = _
  rw [(top_apply hx h).1.1, (top_apply hx h).1.2]

/-- The first score. -/
theorem S_apply_first : S x (ix2 r 0) = Ideal.div 1 (1 + Ideal.exp (L b - L a)) := by
  unfold S
  rw [divf_apply]
  rw [spread_apply (R := 16384) (C := 2) _ _ _ (by decide) r 0, total_apply hx h, (top_apply hx h).1.1]
  exact h.score_first

/-- The second score. -/
theorem S_apply_second : S x (ix2 r 1) = Ideal.div (Ideal.exp (L b - L a)) (1 + Ideal.exp (L b - L a)) := by
  unfold S
  rw [divf_apply]
  rw [spread_apply (R := 16384) (C := 2) _ _ _ (by decide) r 1, total_apply hx h, (top_apply hx h).1.2]
  exact h.score_second

end

end Cert.RefRow

end
-- ==== Proof.PreRow.lean ====
/-
  What the precondition says of one row: its logits have two greatest columns, each greater than every other logit of
  the row below it, and the greatest logit is less than plus infinity.
-/
module

public import proofs.«01_k».proof.Pre_top_two_distinct
public import proofs.«01_k».proof.Proof.Gen.Pre_top_two_distinct
public import Idealize.ShloMosaic.Lib.ReduceAll
public import proofs.«01_k».proof.Proof.Logits

@[expose] public section

noncomputable section

namespace Cert.PreRow

open Idealize.ShloMosaic Idealize.ShloMosaic.ValueIdx Cert.Row Cert.RowOps
open Cert.Pre_top_two_distinct Cert.Pre_top_two_distinct.Gen

/-- A conjunction of two bits is one exactly when both are. -/
theorem and_bit (p q : BitVec 1) : IntOp.andi p q = 1#1 ↔ p = 1#1 ∧ q = 1#1 := by
  revert p q; decide

/-- A truth value as a bit is one exactly when it holds. -/
theorem bit_eq_one (p : Prop) [Decidable p] : BitVec.ofBool (decide p) = 1#1 ↔ p := by
  by_cases h : p <;> simp [h]

/-- A count of at most 64, as a word, is the word of one exactly when it is one. -/
theorem count_eq_one {n : Nat} (hn : n ≤ 64) (e : IntOp.cmpi .eq (BitVec.ofNat 32 n) 1#32 = 1#1) : n = 1 := by
  have e' : BitVec.ofNat 32 n = 1#32 := by
    by_contra hne
    have : (BitVec.ofNat 32 n == 1#32) = false := beq_eq_false_iff_ne.mpr hne
    have e'' : BitVec.ofBool (BitVec.ofNat 32 n == 1#32) = 1#1 := e
    rw [this] at e''
    exact absurd e'' (by decide)
  have h := congrArg BitVec.toNat e'
  rw [BitVec.toNat_ofNat] at h
  have : (1#32).toNat = 1 := rfl
  omega

/-- The number of columns with a property is at most 64. -/
theorem card_le (p : Fin 64 → Prop) [DecidablePred p] : (Finset.univ.filter p).card ≤ 64 :=
  (Finset.card_filter_le _ _).trans (by simp)

variable {s : Shape}

/-- A conjunction at an index. -/
theorem andi_at (p q : IVec s 1) (i : s.Idx) : andi p q i = IntOp.andi (p i) (q i) := rfl

/-- A comparison of words at an index. -/
theorem cmpi_at (p : CmpIPredicate) (y z : IVec s 32) (i : s.Idx) : cmpi p y z i = IntOp.cmpi p (y i) (z i) := rfl

/-- A choice at an index. -/
theorem select_at {α : Type} (p : IVec s 1) (y z : s.Idx → α) (i : s.Idx) : select p y z i = if p i = 1#1 then y i else z i := rfl

/-- The bit of an equality of numbers. -/
theorem cmpf_oeq_eq_one (y z : FVec Ideal s .f32) (i : s.Idx) : cmpf .oeq y z i = 1#1 ↔ y i = z i :=
  bit_eq_one ((y i : EReal) = (z i : EReal))

/-- The bit of a strict inequality of numbers. -/
theorem cmpf_olt_eq_one (y z : FVec Ideal s .f32) (i : s.Idx) : cmpf .olt y z i = 1#1 ↔ (y i : EReal) < (z i : EReal) :=
  bit_eq_one ((y i : EReal) < (z i : EReal))

/-- Where the precondition holds, every row of logits has its two greatest columns. -/
theorem exists_topTwo_of_pre (x : FVec Ideal S4x4096x2048 .f32) (w : FVec Ideal S64x2048 .f32)
    (hpre : Cert.Pre_top_two_distinct.fn (F := Ideal) x w = fun _ => 1#1) (r : Fin 16384) :
    ∃ a b, TopTwo (rowLogits (shapeCast S16384x2048 x shapeCasts_S4x4096x2048_S16384x2048) w r) a b := by
  have h0 := congrFun hpre (fun a => a.elim0)
  dsimp only [fn, fn_part1, fn_where] at h0
  haveI : Subsingleton S_.Idx := ⟨fun i j => funext fun a => a.elim0⟩
  have h1 := Host.reduce_andi_all _ _ _ _ _ h0 (ix1 r)
  clear h0 hpre
  generalize hX : Host.dotGeneral dot_S16384x2048_S2048x64_S16384x64_1_0_0_1_n_n none
    (shapeCast S16384x2048 x shapeCasts_S4x4096x2048_S16384x2048) (transpose S2048x64 [1, 0] w transposes_S64x2048_S2048x64_1_0) = X at h1
  have hL : ∀ k, X (ix2 r k) = rowLogits (shapeCast S16384x2048 x shapeCasts_S4x4096x2048_S16384x2048) w r k := fun k => by
    rw [← hX]; exact dot_transposed_apply _ w transposes_S64x2048_S2048x64_1_0 r k
  clear hX
  generalize hV : Host.reduce FloatOps.maximumf X (constant S_ .f32 0xFF800000#32) reducesTo_S16384x64_S16384_d1 h_S_ = V at h1
  have hM : V (ix1 r) = Finset.univ.fold max (⊥ : EReal)
      (rowLogits (shapeCast S16384x2048 x shapeCasts_S4x4096x2048_S16384x2048) w r) := by
    rw [← hV]
    exact (reduce_max_row X _ (fun _ => word_neg_inf) _ _ _).trans (Finset.fold_congr fun k _ => hL k)
  clear hV
  generalize hp : cmpf .oeq X (broadcastInDim S16384x64 ![0, 1] bcast_S16384x1_S16384x64_0_1
    (broadcastInDim S16384x1 ![0] bcast_S16384_S16384x1_0 V)) = p at h1
  have hp1 : ∀ k, p (ix2 r k) = 1#1 ↔ X (ix2 r k) = V (ix1 r) := fun k => by
    rw [← hp, cmpf_oeq_eq_one, spread_apply (R := 16384) (C := 64) _ _ _ (by decide) r k]
  clear hp
  generalize hY : select p (broadcastInDim S16384x64 ![] bcast_S_S16384x64 (id (constant S_ .f32 0xFF800000#32))) X = Y at h1
  have hrest : ∀ k, Y (ix2 r k) = if X (ix2 r k) = V (ix1 r) then (⊥ : EReal) else X (ix2 r k) := fun k => by
    rw [← hY, select_at]
    by_cases e : X (ix2 r k) = V (ix1 r)
    · rw [if_pos ((hp1 k).mpr e), if_pos e]
      exact word_neg_inf
    · rw [if_neg (fun e' => e ((hp1 k).mp e')), if_neg e]
  clear hY
  generalize hW : Host.reduce FloatOps.maximumf Y (constant S_ .f32 0xFF800000#32) reducesTo_S16384x64_S16384_d1 h_S_ = W at h1
  have hM2 : W (ix1 r) = Finset.univ.fold max (⊥ : EReal) (fun k => Y (ix2 r k)) := by
    rw [← hW]
    exact reduce_max_row Y _ (fun _ => word_neg_inf) _ _ _
  clear hW
  generalize hq : cmpf .oeq Y (broadcastInDim S16384x64 ![0, 1] bcast_S16384x1_S16384x64_0_1
    (broadcastInDim S16384x1 ![0] bcast_S16384_S16384x1_0 W)) = q at h1
  have hq1 : ∀ k, q (ix2 r k) = 1#1 ↔ Y (ix2 r k) = W (ix1 r) := fun k => by
    rw [← hq, cmpf_oeq_eq_one, spread_apply (R := 16384) (C := 64) _ _ _ (by decide) r k]
  clear hq
  rw [andi_at, and_bit, andi_at, and_bit, cmpi_at, cmpi_at] at h1
  obtain ⟨⟨c1, c2⟩, c3⟩ := h1
  rw [reduce_count_row p natLt_1_32 (constantI S_ 32 0#32) (fun _ => rfl)] at c1
  rw [reduce_count_row q natLt_1_32 (constantI S_ 32 0#32) (fun _ => rfl)] at c2
  have ones := count_eq_one (card_le _) c1
  have twos := count_eq_one (card_le _) c2
  rw [cmpf_olt_eq_one] at c3
  have hfin : (V (ix1 r) : EReal) < ⊤ := by
    have e : shapeCast S16384 (broadcastInDim S16384x1 ![0] bcast_S16384_S16384x1_0 V) shapeCasts_S16384x1_S16384 (ix1 r)
        = V (ix1 r) := by
      refine (shapeCast_apply _ _ _ (ix2 r 0) ?_).trans (broadcastInDim_apply ![0] _ V (ix2 r 0) (ix1 r) ?_)
      · rw [Shape.rowMajor_val_one, Shape.rowMajor_val_two]
        show r.val * 1 + 0 = r.val
        omega
      · intro d
        match d with
        | ⟨0, _⟩ => rfl
    rw [← e]
    exact lt_of_lt_of_eq c3 word_pos_inf
  refine exists_topTwo (by decide) _ (fun k => Y (ix2 r k)) (V (ix1 r)) (W (ix1 r)) hM (fun k => ?_) hM2 ?_ ?_ hfin
  · rw [hrest k, hL k]
  · rw [← ones]
    congr 1
    exact Finset.filter_congr fun k _ => by rw [← hL k]; exact (hp1 k).symm
  · rw [← twos]
    congr 1
    exact Finset.filter_congr fun k _ => (hq1 k).symm

end Cert.PreRow

end
-- ==== Proof.Algebraic.lean ====
/-
  The kernel's three result arrays and the reference's are the same arrays, at the ideal instance, for arguments that
  meet the precondition.
-/
module

public import proofs.«01_k».proof.Defs
public import proofs.«01_k».proof.Proof.KernelArrays
public import proofs.«01_k».proof.Proof.RefRow
public import proofs.«01_k».proof.Proof.PreRow

@[expose] public section

noncomputable section

namespace Cert.Proof

open Idealize.ShloMosaic Idealize.ShloMosaic.ValueIdx Idealize.ShloMosaic.TcCoe Idealize.SL.Sem Cert.Row Cert.RowOps

variable (m : (ℓ : Loc Cert.KernelIdeal.nD Cert.KernelIdeal.τ Cert.KernelIdeal.sig) → Buf (Elt Ideal) ℓ)
  (c : Dev Cert.KernelIdeal.nD)

/-- An array with two columns is determined by its two columns. -/
theorem two_columns_ext {α : Type} {x y : (⟨2, ![16384, 2]⟩ : Shape).Idx → α} (h₀ : ∀ r : Fin 16384, x (ix2 r 0) = y (ix2 r 0))
    (h₁ : ∀ r : Fin 16384, x (ix2 r 1) = y (ix2 r 1)) : x = y := by
  funext j
  obtain ⟨r, k, rfl⟩ : ∃ (r : Fin 16384) (k : Fin 2), j = ix2 r k := ⟨j 0, j 1, eq_ix2 j⟩
  match k with
  | ⟨0, _⟩ => exact h₀ r
  | ⟨1, _⟩ => exact h₁ r

/-- The reference's logits are the kernel's. -/
theorem logits_eq : Cert.RefRow.X (Cert.KernelArrays.hidden m c) (Cert.KernelArrays.weights m c)
    = (Cert.KernelIdeal.Gen.dats m 0 c).arrAt 2 Cert.KernelIdeal.cfg0.N := by
  funext j
  obtain ⟨r, k, rfl⟩ : ∃ (r : Fin 16384) (k : Fin 64), j = ix2 r k := ⟨j 0, j 1, eq_ix2 j⟩
  exact (Cert.RefRow.X_apply _ _ r k).trans (Cert.KernelArrays.logits_array m c r k).symm

section

variable {m}
variable (hpre : Cert.Pre_KernelIdeal m)
include hpre

/-- Every row of the kernel's logits has its two greatest columns. -/
theorem row_topTwo (r : Fin 16384) : ∃ a b, TopTwo (Cert.KernelArrays.logits m c r) a b :=
  Cert.PreRow.exists_topTwo_of_pre _ _ (hpre c) r

/-- The reference's scores are the kernel's. -/
theorem scores_eq : Cert.RefRow.S (Cert.RefRow.X (Cert.KernelArrays.hidden m c) (Cert.KernelArrays.weights m c))
    = (Cert.KernelIdeal.Gen.dats m 0 c).arrAt 3 Cert.KernelIdeal.cfg0.N := by
  refine two_columns_ext (fun r => ?_) (fun r => ?_)
  · obtain ⟨a, b, h⟩ := row_topTwo c hpre r
    exact (Cert.RefRow.S_apply_first (fun k => Cert.RefRow.X_apply _ _ r k) h).trans
      (Cert.KernelArrays.scores_array_first h).symm
  · obtain ⟨a, b, h⟩ := row_topTwo c hpre r
    exact (Cert.RefRow.S_apply_second (fun k => Cert.RefRow.X_apply _ _ r k) h).trans
      (Cert.KernelArrays.scores_array_second h).symm

/-- The reference's indices are the kernel's. -/
theorem indices_eq : Cert.RefRow.I (Cert.RefRow.X (Cert.KernelArrays.hidden m c) (Cert.KernelArrays.weights m c))
    = (Cert.KernelIdeal.Gen.dats m 0 c).arrAt 4 Cert.KernelIdeal.cfg0.N := by
  refine two_columns_ext (fun r => ?_) (fun r => ?_)
  · obtain ⟨a, b, h⟩ := row_topTwo c hpre r
    exact (Cert.RefRow.top_apply (fun k => Cert.RefRow.X_apply _ _ r k) h).2.1.trans
      (Cert.KernelArrays.indices_array_first h).symm
  · obtain ⟨a, b, h⟩ := row_topTwo c hpre r
    exact (Cert.RefRow.top_apply (fun k => Cert.RefRow.X_apply _ _ r k) h).2.2.trans
      (Cert.KernelArrays.indices_array_second h).symm

end

/-- The algebraic claim: from arguments that agree and meet the precondition, both programs run, leave their arguments
    as they were, and end with the same logits, scores and indices. -/
theorem algebraic : Cert.algebraic_KernelIdeal_ReferenceIdeal := by
  intro m ρ m' ρ' hpre hagree
  refine ⟨_, _, _, Cert.KernelIdeal.Value.run_blocks m ρ, ?_⟩
  refine (θ_run Cert.ReferenceIdeal.defs _ _).mono (fun _ h c => ⟨(h c).1.trans ?_, (h c).2.1.trans ?_, (h c).2.2.1.trans ?_,
    (h c).2.2.2⟩) (Cert.ReferenceIdeal.Value.run (F := Ideal) m' ρ')
  · rw [(hagree c).1, (hagree c).2]
    exact logits_eq m c
  · unfold Cert.ReferenceIdeal.Value.res_main_v17
    rw [(hagree c).1, (hagree c).2]
    exact scores_eq c hpre
  · rw [(hagree c).1, (hagree c).2]
    exact indices_eq c hpre

end Cert.Proof

end
-- ==== Proof.lean ====
/-
  The certificate: the kernel, its ideal reading and the reference run, leave their arguments unchanged and every
  semaphore counter at zero; and the kernel's logits, scores and indices are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_top_two_distinct
public import Idealize.ShloMosaic.Adequacy
public import Idealize.ShloMosaic.Init
public import Idealize.ShloMosaic.Lib.Quiescent
public import proofs.«01_k».proof.Proof.Algebraic

@[expose] public section

noncomputable section

namespace Cert.Proof

open Idealize.ShloMosaic Idealize.SL.Sem Cert.Kernel

/-- The reference runs, leaves its arguments unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- All the claims. -/
theorem claim : Cert.Claim :=
  ⟨Cert.Kernel.Gen.facts, Cert.KernelIdeal.Gen.facts, Cert.ReferenceIdeal.Gen.facts, Cert.Pre_top_two_distinct.Gen.facts,
    fun m ρ _ => Cert.Kernel.Gen.frame m ρ,
    fun m ρ _ => Cert.Kernel.Gen.frame m ρ,
    fun m ρ _ => Cert.KernelIdeal.Gen.frame m ρ,
    fun m ρ _ => reference_frame m ρ,
    fun m ρ _ => reference_frame m ρ,
    trivial,
    algebraic⟩

end Cert.Proof

end
